-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neighbour_table [hPre_neighbour_table : Cert.Pre_neighbour_table.Facts] (m : (ℓ : Loc Cert.KernelIdeal.nD Cert.KernelIdeal.τ Cert.KernelIdeal.sig) → Buf (Elt Ideal) ℓ) : Prop :=
  ∀ c : Dev Cert.KernelIdeal.nD,
    (Cert.Pre_neighbour_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_neighbour_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_neighbour_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_neighbour_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbour_table [hPre_neighbour_table : Cert.Pre_neighbour_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbour_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_neighbour_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_neighbour_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_neighbour_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_neighbour_table [hKernelIdeal : Cert.KernelIdeal.Facts] [hPre_neighbour_table : Cert.Pre_neighbour_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbour_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_neighbour_table [hReferenceIdeal : Cert.ReferenceIdeal.Facts] [hPre_neighbour_table : Cert.Pre_neighbour_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbour_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_neighbour_table [hKernelIdeal : Cert.KernelIdeal.Facts] [hReferenceIdeal : Cert.ReferenceIdeal.Facts] [hPre_neighbour_table : Cert.Pre_neighbour_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbour_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_neighbour_table : Cert.Pre_neighbour_table.Facts),
    quiescent_Kernel (hKernel := hKernel)
    ∧ quiescent_KernelIdeal (hKernelIdeal := hKernelIdeal)
    ∧ quiescent_KernelIdeal_pre_neighbour_table (hKernelIdeal := hKernelIdeal) (hPre_neighbour_table := hPre_neighbour_table)
    ∧ quiescent_ReferenceIdeal (hReferenceIdeal := hReferenceIdeal)
    ∧ quiescent_ReferenceIdeal_pre_neighbour_table (hReferenceIdeal := hReferenceIdeal) (hPre_neighbour_table := hPre_neighbour_table)
    ∧ preserves_Kernel_KernelIdeal
    ∧ algebraic_KernelIdeal_ReferenceIdeal_pre_neighbour_table (hKernelIdeal := hKernelIdeal) (hReferenceIdeal := hReferenceIdeal) (hPre_neighbour_table := hPre_neighbour_table)
-- ==== Pre_neighbour_table.lean ====
abbrev S16384x32 : Shape := ⟨2, ![16384, 32]⟩
abbrev S32x16x16 : Shape := ⟨3, ![32, 16, 16]⟩
abbrev S32x16 : Shape := ⟨2, ![32, 16]⟩
abbrev S32 : Shape := ⟨1, ![32]⟩
abbrev S_ : Shape := ⟨0, ![]⟩

class Facts : Prop where
  bcast_S32x16_S32x16x16_0_1 : S32x16.BroadcastsInDim S32x16x16 (![0, 1] : Fin 2 → Fin S32x16x16.rank)
  bcast_S32x16_S32x16x16_0_2 : S32x16.BroadcastsInDim S32x16x16 (![0, 2] : Fin 2 → Fin S32x16x16.rank)
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x16x16 : S_.BroadcastsInDim S32x16x16 (![] : Fin 0 → Fin S32x16x16.rank)
  reducesTo_S32x16x16_S_d0_1_2 : S32x16x16.ReducesTo [0, 1, 2] S_
  bcast_S_S32x16 : S_.BroadcastsInDim S32x16 (![] : Fin 0 → Fin S32x16.rank)
  bcast_S_S32 : S_.BroadcastsInDim S32 (![] : Fin 0 → Fin S32.rank)

variable [Facts]

def fn_part1 {F : FTy → Type} [FloatOps F] (main_arg5 : IVec S32x16 32) (main_v0 : IVec S32x16x16 32) (main_v1 : IVec S32x16x16 32) (main_v2 : IVec S32x16x16 32) (main_v3 : IVec S32x16x16 32) (main_v12 : IVec S_ 1) (main_v14 : IVec S32x16 1) (main_v16 : IVec S32 1) (main_c_4 : IVec S_ 32) : IVec S32x16 1 × IVec S32 1 × IVec S32x16 1 × IVec S32x16x16 1 :=
  let main_v17 : IVec S32x16 32 := broadcastInDim S32x16 ![] bcast_S_S32x16 main_c_4
  let main_v18 : IVec S32x16 1 := cmpi .sge main_arg5 main_v17
  let main_c_5 : IVec S_ 32 := constantI S_ 32 32#32
  let main_v19 : IVec S32x16 32 := broadcastInDim S32x16 ![] bcast_S_S32x16 main_c_5
  let main_v20 : IVec S32x16 1 := cmpi .slt main_arg5 main_v19
  let main_v21 : IVec S32x16 1 := andi main_v18 main_v20
  let main_v22 : IVec S32x16x16 1 := cmpi .eq main_v0 main_v1
  let main_v23 : IVec S32x16x16 1 := cmpi .ne main_v2 main_v3
  let main_v24 : IVec S32x16x16 1 := ori main_v22 main_v23
  let main_v25 : IVec S32x16x16 1 := broadcastInDim S32x16x16 ![] bcast_S_S32x16x16 main_v12
  let main_v26 : IVec S32x16x16 1 := ori main_v24 main_v25
  (main_v14, main_v16, main_v21, main_v26)

def fn {F : FTy → Type} [FloatOps F] (main_arg0 : FVec F S16384x32 .f32) (main_arg1 : FVec F S32x16x16 .f32) (main_arg2 : FVec F S32x16 .f32) (main_arg3 : FVec F S32x16 .f32) (main_arg4 : FVec F S32 .f32) (main_arg5 : IVec S32x16 32) : IVec S32x16 1 × IVec S32 1 × IVec S32x16 1 × IVec S32x16x16 1 :=
  let main_v0 : IVec S32x16x16 32 := iotaInDim S32x16x16 32 1
  let main_v1 : IVec S32x16x16 32 := iotaInDim S32x16x16 32 2
  let main_v2 : IVec S32x16x16 32 := broadcastInDim S32x16x16 ![0, 1] bcast_S32x16_S32x16x16_0_1 main_arg5
  let main_v3 : IVec S32x16x16 32 := broadcastInDim S32x16x16 ![0, 2] bcast_S32x16_S32x16x16_0_2 main_arg5
  let main_v4 : FVec F S16384x32 .f32 := Host.absf main_arg0
  let main_cst : FVec F S_ .f32 := constant S_ .f32 0x7F800000#32
  let main_v5 : FVec F S16384x32 .f32 := broadcastInDim S16384x32 ![] bcast_S_S16384x32 main_cst
  let main_v6 : IVec S16384x32 1 := cmpf .olt main_v4 main_v5
  let main_c : IVec S_ 1 := constantI S_ 1 1#1
  let main_v7 : IVec S_ 1 := (fun x v => Host.reduce IntOp.andi x v reducesTo_S16384x32_S_d0_1 h_S_) main_v6 main_c
  let main_v8 : FVec F S32x16x16 .f32 := Host.absf main_arg1
  let main_cst_0 : FVec F S_ .f32 := constant S_ .f32 0x7F800000#32
  let main_v9 : FVec F S32x16x16 .f32 := broadcastInDim S32x16x16 ![] bcast_S_S32x16x16 main_cst_0
  let main_v10 : IVec S32x16x16 1 := cmpf .olt main_v8 main_v9
  let main_c_1 : IVec S_ 1 := constantI S_ 1 1#1
  let main_v11 : IVec S_ 1 := (fun x v => Host.reduce IntOp.andi x v reducesTo_S32x16x16_S_d0_1_2 h_S_) main_v10 main_c_1
  let main_v12 : IVec S_ 1 := andi main_v7 main_v11
  let main_cst_2 : FVec F S_ .f32 := constant S_ .f32 0x00000000#32
  let main_v13 : FVec F S32x16 .f32 := broadcastInDim S32x16 ![] bcast_S_S32x16 main_cst_2
  let main_v14 : IVec S32x16 1 := cmpf .oeq main_arg2 main_v13
  let main_cst_3 : FVec F S_ .f32 := constant S_ .f32 0x00000000#32
  let main_v15 : FVec F S32 .f32 := broadcastInDim S32 ![] bcast_S_S32 main_cst_3
  let main_v16 : IVec S32 1 := cmpf .oeq main_arg4 main_v15
  let main_c_4 : IVec S_ 32 := constantI S_ 32 0#32
  fn_part1 (F := F) main_arg5 main_v0 main_v1 main_v2 main_v3 main_v12 main_v14 main_v16 main_c_4
-- ==== Kernel.lean ====
abbrev S16384x32 : Shape := ⟨2, ![16384, 32]⟩
abbrev S32x16x16 : Shape := ⟨3, ![32, 16, 16]⟩
abbrev S32x16 : Shape := ⟨2, ![32, 16]⟩
abbrev S32 : Shape := ⟨1, ![32]⟩
abbrev S16x32x16 : Shape := ⟨3, ![16, 32, 16]⟩
abbrev S16x512 : Shape := ⟨2, ![16, 512]⟩
abbrev S16x32 : Shape := ⟨2, ![16, 32]⟩
abbrev S16x32x1 : Shape := ⟨3, ![16, 32, 1]⟩
abbrev S1x512 : Shape := ⟨2, ![1, 512]⟩
abbrev S4096x32 : Shape := ⟨2, ![4096, 32]⟩
abbrev S32x512 : Shape := ⟨2, ![32, 512]⟩
abbrev S4096x512 : Shape := ⟨2, ![4096, 512]⟩

abbrev nBuf : Space → Nat
  | .hbm => 15
  | .vmem => 9
  | .smem => 0
  | _ => 0

abbrev bufTy : (tb : Table) → Fin (tcTables nBuf tb) → BufTy
  | .hbm, ⟨0, _⟩ => ⟨S16384x32, .f32⟩
  | .hbm, ⟨1, _⟩ => ⟨S32x16x16, .f32⟩
  | .hbm, ⟨2, _⟩ => ⟨S32x16, .f32⟩
  | .hbm, ⟨3, _⟩ => ⟨S32x16, .f32⟩
  | .hbm, ⟨4, _⟩ => ⟨S32, .f32⟩
  | .hbm, ⟨5, _⟩ => ⟨S32x16, .i32⟩
  | .hbm, ⟨6, _⟩ => ⟨S16x32x16, .f32⟩
  | .hbm, ⟨7, _⟩ => ⟨S16x512, .f32⟩
  | .hbm, ⟨8, _⟩ => ⟨S16x32, .i32⟩
  | .hbm, ⟨9, _⟩ => ⟨S16x32x1, .i32⟩
  | .hbm, ⟨10, _⟩ => ⟨S16x32x16, .i32⟩
  | .hbm, ⟨11, _⟩ => ⟨S16x512, .i32⟩
  | .hbm, ⟨12, _⟩ => ⟨S16x512, .f32⟩
  | .hbm, ⟨13, _⟩ => ⟨S1x512, .f32⟩
  | .hbm, ⟨14, _⟩ => ⟨S16384x32, .f32⟩
  | .local _ .vmem, ⟨0, _⟩ => ⟨S4096x32, .f32⟩
  | .local _ .vmem, ⟨1, _⟩ => ⟨S4096x32, .f32⟩
  | .local _ .vmem, ⟨2, _⟩ => ⟨S16x512, .f32⟩
  | .local _ .vmem, ⟨3, _⟩ => ⟨S16x512, .f32⟩
  | .local _ .vmem, ⟨4, _⟩ => ⟨S1x512, .f32⟩
  | .local _ .vmem, ⟨5, _⟩ => ⟨S4096x32, .f32⟩
  | .local _ .vmem, ⟨6, _⟩ => ⟨S4096x32, .f32⟩
  | .local _ .vmem, ⟨7, _⟩ => ⟨S32x512, .bf16⟩
  | .local _ .vmem, ⟨8, _⟩ => ⟨S32x512, .bf16⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x32 : Shape := ⟨2, ![16384, 32]⟩
abbrev S32x16x16 : Shape := ⟨3, ![32, 16, 16]⟩
abbrev S32x16 : Shape := ⟨2, ![32, 16]⟩
abbrev S32 : Shape := ⟨1, ![32]⟩
abbrev S512 : Shape := ⟨1, ![512]⟩
abbrev S_ : Shape := ⟨0, ![]⟩
abbrev S512x1 : Shape := ⟨2, ![512, 1]⟩
abbrev S1 : Shape := ⟨1, ![1]⟩
abbrev S1x1 : Shape := ⟨2, ![1, 1]⟩
abbrev S16384x512 : Shape := ⟨2, ![16384, 512]⟩
abbrev S16384x32x16 : Shape := ⟨3, ![16384, 32, 16]⟩
abbrev S32x16x16384 : Shape := ⟨3, ![32, 16, 16384]⟩
abbrev S1x32x16 : Shape := ⟨3, ![1, 32, 16]⟩
abbrev S32x16384 : Shape := ⟨2, ![32, 16384]⟩
abbrev S1x32 : Shape := ⟨2, ![1, 32]⟩

abbrev nBuf : Space → Nat
  | .hbm => 52
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S32x16x16, .f32⟩
  | .hbm, ⟨2, _⟩ => ⟨S32x16, .f32⟩
  | .hbm, ⟨3, _⟩ => ⟨S32x16, .f32⟩
  | .hbm, ⟨4, _⟩ => ⟨S32, .f32⟩
  | .hbm, ⟨5, _⟩ => ⟨S32x16, .i32⟩
  | .hbm, ⟨6, _⟩ => ⟨S512, .i32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512x1, .i32⟩
  | .hbm, ⟨15, _⟩ => ⟨S1, .i32⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S1x1, .i32⟩
  | .hbm, ⟨20, _⟩ => ⟨S512x1, .i32⟩
  | .hbm, ⟨21, _⟩ => ⟨S512x1, .i1⟩
  | .hbm, ⟨22, _⟩ => ⟨S512x1, .i1⟩
  | .hbm, ⟨23, _⟩ => ⟨S_, .i1⟩
  | .hbm, ⟨24, _⟩ => ⟨S512, .i1⟩
  | .hbm, ⟨25, _⟩ => ⟨S16384x512, .f32⟩
  | .hbm, ⟨26, _⟩ => ⟨S16384x512, .i1⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x32x16, .f32⟩
  | .hbm, ⟨31, _⟩ => ⟨S32x16x16384, .f32⟩
  | .hbm, ⟨32, _⟩ => ⟨S16384x32x16, .f32⟩
  | .hbm, ⟨33, _⟩ => ⟨S1x32x16, .f32⟩
  | .hbm, ⟨34, _⟩ => ⟨S16384x32x16, .f32⟩
  | .hbm, ⟨35, _⟩ => ⟨S16384x32x16, .f32⟩
  | .hbm, ⟨36, _⟩ => ⟨S_, .f32⟩
  | .hbm, ⟨37, _⟩ => ⟨S16384x32x16, .f32⟩
  | .hbm, ⟨38, _⟩ => ⟨S16384x32x16, .f32⟩
  | .hbm, ⟨39, _⟩ => ⟨S32x16384, .f32⟩
  | .hbm, ⟨40, _⟩ => ⟨S16384x32, .f32⟩
  | .hbm, ⟨41, _⟩ => ⟨S1x32, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S_, .f32⟩
  | .hbm, ⟨47, _⟩ => ⟨S16384x32, .f32⟩
  | .hbm, ⟨48, _⟩ => ⟨S16384x32, .f32⟩
  | .hbm, ⟨49, _⟩ => ⟨S_, .f32⟩
  | .hbm, ⟨50, _⟩ => ⟨S16384x32, .f32⟩
  | .hbm, ⟨51, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call1_cst : Ref sig .tc := ⟨.hbm, 36, rfl⟩
abbrev main_call1_v0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_cst_0 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Body.lean ====
/-
  What one grid point of the kernel computes, over the extended reals: the two tables the first point folds from the
  weights and the neighbour table, and the block of results every point stores.
-/
module

public import proofs.«01_k».proof.Proof.Gen.KernelIdeal.Value
public import Idealize.ShloMosaic.Lib.Pointwise
public import Idealize.ShloMosaic.Lib.Tactic

@[expose] public section

set_option maxRecDepth 16384

noncomputable section

namespace Cert.KernelIdeal.Body

open Idealize.ShloMosaic Idealize.ShloMosaic.TcCoe
open Cert.KernelIdeal Cert.KernelIdeal.Gen

/-- The offset of a whole-buffer access. -/
theorem off_zero : (![0, 0] : Fin 2 → Nat) = fun _ => 0 := funext fun a => by fin_cases a <;> rfl

/-- The folded first layer: entry `(m, c)` collects, over the neighbour slots `k`, the weights `w (k, c)` whose neighbour
    `nb (k, c)` is node `m`. -/
def foldW1 (w nb : FVec Ideal S16x512 .f32) : FVec Ideal S32x512 .bf16 := fun j =>
  ∑ k : Fin 16, if nb (ix2 k (j 1)) = (((j 0).val : ℝ) : EReal) then w (ix2 k (j 1)) else 0

/-- The second layer laid out block-diagonally: entry `(n, c)` is the weight at column `c` where `c` is one of node `n`'s
    sixteen columns, and zero elsewhere. -/
def diagW2 (w : FVec Ideal S1x512 .f32) : FVec Ideal S32x512 .bf16 := fun j =>
  if (j 0).val = (j 1).val / 16 then w (ix2 0 (j 1)) else 0

/-- A node's number, converted from its word, is that number. -/
theorem node_word (n : Fin 32) : (FloatOps.sitofp .f32 (BitVec.ofNat 32 n.val) : Ideal .f32) = ((n.val : ℝ) : EReal) := by
  have h : (BitVec.ofNat 32 n.val).toInt = n.val := (by decide : ∀ n : Fin 32, (BitVec.ofNat 32 n.val).toInt = n.val) n
  show (((BitVec.ofNat 32 n.val).toInt : ℝ) : EReal) = _
  rw [h, Int.cast_natCast]

/-- The floor division of a column's number by sixteen, as the kernel spells it on words, is the node that owns the
    column. -/
theorem column_node : ∀ j1 : Fin 512,
    Scalar.select
      (IntOp.andi
        (IntOp.cmpi CmpIPredicate.ne
          (IntOp.subi (BitVec.setWidth 32 (IntOp.cmpi CmpIPredicate.sgt (BitVec.ofNat 32 j1.val) 0#32))
            (BitVec.setWidth 32 (IntOp.cmpi CmpIPredicate.slt (BitVec.ofNat 32 j1.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 j1.val) 16#32) 0#32))
      (IntOp.subi (IntOp.divsi ArithUnit.vector (BitVec.ofNat 32 j1.val) 16#32) 1#32)
      (IntOp.divsi ArithUnit.vector (BitVec.ofNat 32 j1.val) 16#32)
    = BitVec.ofNat 32 (j1.val / 16) := by
  decide +kernel

/-- Node words are equal exactly when the nodes are. -/
theorem node_eq (n : Fin 32) (j1 : Fin 512) :
    IntOp.cmpi CmpIPredicate.eq (BitVec.ofNat 32 n.val) (BitVec.ofNat 32 (j1.val / 16))
      = BitVec.ofBool (decide (n.val = j1.val / 16)) := by
  revert n j1
  decide +kernel

section
variable (c : Dev nD) (i : grid0.Coords) (arg1 : Memref sig .tc .vmem S4096x32 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S1x512 .f32) (harg4 : arg4.IsWhole) (arg5 : Memref sig .tc .vmem S4096x32 .f32) (harg5 : arg5.IsWhole) (arg6 : Memref sig .tc .vmem S32x512 .bf16) (harg6 : arg6.IsWhole) (arg7 : Memref sig .tc .vmem S32x512 .bf16) (harg7 : arg7.IsWhole)

theorem scratch1_A (hc0 : cond0_0 i) (x0 : FVec Ideal S4096x32 .f32) (x1 x2 : FVec Ideal S16x512 .f32) (x3 : FVec Ideal S1x512 .f32) :
    sout0_A_1 (F := Ideal) c i arg1 harg1 arg2 harg2 arg3 harg3 arg4 harg4 arg5 harg5 arg6 harg6 arg7 harg7 hc0 x0 x1 x2 x3 = diagW2 x3 := by
  unfold sout0_A_1
  rw [View.read_writes_eq_canon _ _ _ (scover0_A_1 (F := Ideal) c i arg1 harg1 arg2 harg2 arg3 harg3 arg4 harg4 arg5 harg5 arg6 harg6 arg7 harg7 hc0 x0 x1 x2 x3)]
  unfold kernelRun0_A
  dsimp only
  sl_unfold_words
  rw [View.canon_unit_zero off_zero]
  simp only [View.readAt_eq_ld, harg4.read_unread (Val := Elt Ideal) x3, View.ld_unit_zero (S := S1x512) off_zero]
  funext j
  idx_vars j
  pointwise [k0_pay1, k0_pay13, diagW2]
  rw [column_node, Scalar.select, node_eq]
  by_cases h : j0.val = j1.val / 16 <;> simp [h]

theorem scratch0_A (hc0 : cond0_0 i) (x0 : FVec Ideal S4096x32 .f32) (x1 x2 : FVec Ideal S16x512 .f32) (x3 : FVec Ideal S1x512 .f32) :
    sout0_A_0 (F := Ideal) c i arg1 harg1 arg2 harg2 arg3 harg3 arg4 harg4 arg5 harg5 arg6 harg6 arg7 harg7 hc0 x0 x1 x2 x3 = foldW1 x1 x2 := by
  unfold sout0_A_0
  rw [View.read_writes_eq_canon _ _ _ (scover0_A_0 (F := Ideal) c i arg1 harg1 arg2 harg2 arg3 harg3 arg4 harg4 arg5 harg5 arg6 harg6 arg7 harg7 hc0 x0 x1 x2 x3)]
  unfold kernelRun0_A
  dsimp only
  sl_unfold_words
  rw [View.canon_unit_zero off_zero]
  simp only [View.readAt_eq_ld, harg2.read_unread (Val := Elt Ideal) x1, harg3.read_unread (Val := Elt Ideal) x2]
  funext j
  idx_vars j
  pointwise [k0_pay3, k0_pay4, k0_pay5, k0_pay6, k0_pay7, k0_pay8, k0_pay9, k0_pay10, k0_pay11, k0_pay12, foldW1]
  simp only [node_word, Fin.sum_univ_castSucc, Finset.univ_eq_empty, Finset.sum_empty, zero_add]
  rfl

theorem out_A (hc0 : cond0_0 i) (x0 : FVec Ideal S4096x32 .f32) (x1 x2 : FVec Ideal S16x512 .f32) (x3 : FVec Ideal S1x512 .f32) :
    out0_A_4 (F := Ideal) c i arg1 harg1 arg2 harg2 arg3 harg3 arg4 harg4 arg5 harg5 arg6 harg6 arg7 harg7 hc0 x0 x1 x2 x3
      = k0_pay2 (F := Ideal) x0 (sout0_A_0 (F := Ideal) c i arg1 harg1 arg2 harg2 arg3 harg3 arg4 harg4 arg5 harg5 arg6 harg6 arg7 harg7 hc0 x0 x1 x2 x3)
        (sout0_A_1 (F := Ideal) c i arg1 harg1 arg2 harg2 arg3 harg3 arg4 harg4 arg5 harg5 arg6 harg6 arg7 harg7 hc0 x0 x1 x2 x3) := by
  unfold out0_A_4 sout0_A_0 sout0_A_1
  rw [View.read_writes_eq_canon _ _ _ (cover0_A_4 (F := Ideal) c i arg1 harg1 arg2 harg2 arg3 harg3 arg4 harg4 arg5 harg5 arg6 harg6 arg7 harg7 hc0 x0 x1 x2 x3),
    View.read_writes_eq_canon _ _ _ (scover0_A_0 (F := Ideal) c i arg1 harg1 arg2 harg2 arg3 harg3 arg4 harg4 arg5 harg5 arg6 harg6 arg7 harg7 hc0 x0 x1 x2 x3),
    View.read_writes_eq_canon _ _ _ (scover0_A_1 (F := Ideal) c i arg1 harg1 arg2 harg2 arg3 harg3 arg4 harg4 arg5 harg5 arg6 harg6 arg7 harg7 hc0 x0 x1 x2 x3)]
  unfold kernelRun0_A
  dsimp only
  sl_unfold_words
  rw [View.canon_unit_zero off_zero, View.canon_unit_zero off_zero, View.canon_unit_zero off_zero]
  simp only [View.readCov_unit_zero (S := S32x512) _ off_zero, View.readAt_eq_ld, harg1.read_unread (Val := Elt Ideal) x0, View.ld_unit_zero (S := S4096x32) off_zero]

theorem out_B (hc0 : ¬cond0_0 i) (x0 : FVec Ideal S4096x32 .f32) (x1 x2 : FVec Ideal S16x512 .f32) (x3 : FVec Ideal S1x512 .f32) (s0 s1 : FVec Ideal S32x512 .bf16) :
    out0_B_4 (F := Ideal) c i arg1 harg1 arg2 harg2 arg3 harg3 arg4 harg4 arg5 harg5 arg6 harg6 arg7 harg7 hc0 x0 x1 x2 x3 s0 s1 = k0_pay2 (F := Ideal) x0 s0 s1 := by
  unfold out0_B_4
  rw [View.read_writes_eq_canon _ _ _ (cover0_B_4 (F := Ideal) c i arg1 harg1 arg2 harg2 arg3 harg3 arg4 harg4 arg5 harg5 arg6 harg6 arg7 harg7 hc0 x0 x1 x2 x3 s0 s1)]
  unfold kernelRun0_B
  dsimp only
  sl_unfold_words
  rw [View.canon_unit_zero off_zero]
  simp only [View.readAt_eq_ld, harg1.read_unread (Val := Elt Ideal) x0, harg6.read_unread (Val := Elt Ideal) s0, harg7.read_unread (Val := Elt Ideal) s1, View.ld_unit_zero (S := S4096x32) off_zero, View.ld_unit_zero (S := S32x512) off_zero]
end

end Cert.KernelIdeal.Body

end
-- ==== Proof.KernelValue.lean ====
/-
  The kernel's result at an index, over the extended reals: the arrays the host prepares read off the arguments, the two
  folded tables the same at every grid point, and each block of results computed from them.
-/
module

public import proofs.«01_k».proof.Proof.Body
public import proofs.«01_k».proof.Proof.Gen.KernelIdeal.Value
public import Idealize.ShloMosaic.Lib.Pipeline.ValueKit

@[expose] public section

set_option maxRecDepth 16384

noncomputable section

namespace Cert.KernelIdeal.Body

open Idealize.ShloMosaic Idealize.ShloMosaic.TcCoe
open Cert.KernelIdeal Cert.KernelIdeal.Gen

variable (m : (ℓ : Loc nD τ sig) → Buf (Elt Ideal) ℓ) (c : Dev nD)

/-- The first layer's weights with the neighbour slots as rows and the (node, unit) pairs as columns. -/
def rowsW1 (W1 : FVec Ideal S32x16x16 .f32) : FVec Ideal S16x512 .f32 := fun j =>
  W1 (ix3 (⟨(j 1).val / 16, by have := (j 1).isLt; change (j 1).val < 512 at this; omega⟩ : Fin 32) (j 0) (⟨(j 1).val % 16, by omega⟩ : Fin 16))

/-- The neighbour table in the same layout, its words converted to floats. -/
def rowsNb (nb : IVec S32x16 32) : FVec Ideal S16x512 .f32 := fun j =>
  FloatOps.sitofp .f32 (nb (ix2 (⟨(j 1).val / 16, by have := (j 1).isLt; change (j 1).val < 512 at this; omega⟩ : Fin 32) (j 0)))

/-- The second layer's weights as one row. -/
def rowW2 (W2 : FVec Ideal S32x16 .f32) : FVec Ideal S1x512 .f32 := fun j =>
  W2 (ix2 (⟨(j 1).val / 16, by have := (j 1).isLt; change (j 1).val < 512 at this; omega⟩ : Fin 32) (⟨(j 1).val % 16, by omega⟩ : Fin 16))

/-- The printed index maps, decided over the grid: the input's block moves with the point, the three tables stay. -/
theorem index_maps : ∀ t : Fin cfg0.N, win0_0.index t = ![t.val, 0] ∧ win0_1.index t = ![0, 0] ∧ win0_2.index t = ![0, 0]
    ∧ win0_3.index t = ![0, 0] :=
  (by decide +kernel : ∀ t : Fin grid0.N, _)

theorem entry_w1 (j : S16x512.Idx) : V m c main_v1 j = rowsW1 (m (c.tc.loc main_arg1)) j := by
  idx_vars j
  unfold V
  entry_read
  pointwise [rowsW1]

theorem entry_nb (j : S16x512.Idx) : V m c main_v6 j = rowsNb (m (c.tc.loc main_arg5)) j := by
  idx_vars j
  unfold V
  entry_read
  pointwise [rowsNb]

theorem entry_w2 (j : S1x512.Idx) : V m c main_v7 j = rowW2 (m (c.tc.loc main_arg3)) j := by
  idx_vars j
  unfold V
  entry_read
  pointwise [rowW2]

theorem iblk_w1 (t : Fin cfg0.N) : iblk m c 1 t = rowsW1 (m (c.tc.loc main_arg1)) := by
  funext j
  rw [← entry_w1]
  have e := (index_maps t).2.1
  blk_simp [iblk, e]
  blk_ext [iblk, V, e]

theorem iblk_nb (t : Fin cfg0.N) : iblk m c 2 t = rowsNb (m (c.tc.loc main_arg5)) := by
  funext j
  rw [← entry_nb]
  have e := (index_maps t).2.2.1
  blk_simp [iblk, e]
  blk_ext [iblk, V, e]

theorem iblk_w2 (t : Fin cfg0.N) : iblk m c 3 t = rowW2 (m (c.tc.loc main_arg3)) := by
  funext j
  rw [← entry_w2]
  have e := (index_maps t).2.2.2
  blk_simp [iblk, e]
  blk_ext [iblk, V, e]

/-- Row `r` of the input's block at point `t` is row `4096 t + r` of the input. -/
theorem iblk_x (t : Fin cfg0.N) (r : Fin 4096) (k : Fin 32) (h : t.val * 4096 + r.val < 16384) :
    iblk m c 0 t (ix2 r k) = m (c.tc.loc main_arg0) (ix2 (⟨t.val * 4096 + r.val, h⟩ : Fin 16384) k) := by
  have e := (index_maps t).1
  blk_ext [iblk, V, e]

/-- The input's block at point `t` as an array over the block's own shape. -/
def xBlk (t : Fin cfg0.N) : FVec Ideal S4096x32 .f32 := iblk m c 0 t

/-- After every point the two scratches hold the folded tables, and the point's block of results is computed from them. -/
theorem contents (n : ℕ) (h : n < cfg0.N) :
    outsAt0 m c n h = (k0_pay2 (F := Ideal) (xBlk m c ⟨n, h⟩) (foldW1 (rowsW1 (m (c.tc.loc main_arg1))) (rowsNb (m (c.tc.loc main_arg5)))) (diagW2 (rowW2 (m (c.tc.loc main_arg3)))),
      foldW1 (rowsW1 (m (c.tc.loc main_arg1))) (rowsNb (m (c.tc.loc main_arg5))), diagW2 (rowW2 (m (c.tc.loc main_arg3)))) := by
  induction n with
  | zero =>
    refine (outsAt0_A m c ⟨0, h⟩ (by rfl)).trans ?_
    rw [out_A, scratch0_A, scratch1_A, iblk_w1, iblk_nb, iblk_w2]
    rfl
  | succ n ih =>
    have hN := lt_of_lt_of_eq h (show cfg0.N = 4 from N_0)
    refine (outsAt0_B m c ⟨n + 1, h⟩ (by show ¬(n + 1) % 4 = 0; omega)).trans ?_
    rw [out_B]
    unfold sout0_B_0 sout0_B_1
    have e := ih (by omega)
    have e' : outsAt0 m c ((⟨n + 1, h⟩ : Fin cfg0.N).val - 1) (Nat.lt_of_le_of_lt (Nat.sub_le _ _) (⟨n + 1, h⟩ : Fin cfg0.N).isLt) = outsAt0 m c n (by omega) := rfl
    rw [e', e]
    rfl

/-- A block of results at an index: the logistic function, through tanh, of the node's second layer. -/
theorem pay_apply (x : FVec Ideal S4096x32 .f32) (s0 s1 : FVec Ideal S32x512 .bf16) (r : Fin 4096) (n : Fin 32) :
    k0_pay2 (F := Ideal) x s0 s1 (ix2 r n)
      = (Ideal.ofBits .f32 0x3F000000#32 : EReal) * Ideal.tanh ((Ideal.ofBits .f32 0x3F000000#32 : EReal) *
          ∑ cl : Fin 512, max (∑ k : Fin 32, x (ix2 r k) * s0 (ix2 k cl) : EReal) 0 * s1 (ix2 n cl)) + (Ideal.ofBits .f32 0x3F000000#32 : EReal) := by
  unfold k0_pay2
  pointwise

/-- What the kernel computes for row `b` and node `n`, from the arguments. -/
def resultAt (x : FVec Ideal S16384x32 .f32) (W1 : FVec Ideal S32x16x16 .f32) (W2 : FVec Ideal S32x16 .f32) (nb : IVec S32x16 32)
    (b : Fin 16384) (n : Fin 32) : EReal :=
  (Ideal.ofBits .f32 0x3F000000#32 : EReal) * Ideal.tanh ((Ideal.ofBits .f32 0x3F000000#32 : EReal) *
    ∑ cl : Fin 512, max (∑ k : Fin 32, x (ix2 b k) * foldW1 (rowsW1 W1) (rowsNb nb) (ix2 k cl) : EReal) 0
      * diagW2 (rowW2 W2) (ix2 n cl)) + (Ideal.ofBits .f32 0x3F000000#32 : EReal)

/-- The kernel's result at an index. -/
theorem result_apply (b : Fin 16384) (n : Fin 32) :
    Value.G4 m c (ix2 b n)
      = resultAt (m (c.tc.loc main_arg0)) (m (c.tc.loc main_arg1)) (m (c.tc.loc main_arg3)) (m (c.tc.loc main_arg5)) b n := by
  have hN : cfg0.N = 4 := N_0
  have hp : Value.pt4Of (ix2 b n) = b.val / 4096 := by
    show 1 * (b.val / 4096 - 0) + 1 * (n.val / 32 - 0) = b.val / 4096
    omega
  have hlt : Value.pt4Of (ix2 b n) < cfg0.N := by rw [hp, hN]; omega
  have hl : Value.loc4Of (ix2 b n) = ix2 (⟨b.val % 4096, by omega⟩ : Fin 4096) n := by
    funext a
    refine Fin.ext ?_
    match a with
    | ⟨0, _⟩ => rfl
    | ⟨1, _⟩ => show n.val % 32 = n.val; omega
  unfold Value.G4
  rw [dif_pos hlt, ← Value.outsAt0_sweep m c _ hlt, contents, hl]
  dsimp only
  rw [pay_apply]
  have hx : ∀ k, xBlk m c ⟨Value.pt4Of (ix2 b n), hlt⟩ (ix2 (⟨b.val % 4096, by omega⟩ : Fin 4096) k) = m (c.tc.loc main_arg0) (ix2 b k) := fun k => by
    unfold xBlk
    rw [iblk_x m c _ _ _ (by show Value.pt4Of (ix2 b n) * 4096 + b.val % 4096 < 16384; rw [hp]; omega)]
    refine congrArg (m (c.tc.loc main_arg0)) (congrArg (fun z => ix2 z k) (Fin.ext ?_))
    show Value.pt4Of (ix2 b n) * 4096 + b.val % 4096 = b.val
    rw [hp]; omega
  simp only [hx]
  rfl

end Cert.KernelIdeal.Body

end
-- ==== Proof.Math.lean ====
/-
  Facts about sums and functions of extended reals that relate the kernel's arrangement to the problem's text: a table of
  selected weights against a gathered row, a block-diagonal product against the one block it keeps, and the logistic
  function through tanh.
-/
module

public import Idealize.ShloMosaic.PureOps.Ideal
public import Idealize.ShloMosaic.Lib.Pointwise

@[expose] public section

noncomputable section

namespace Cert.Math

open Idealize.ShloMosaic

/-- Every entry is a real number. -/
def AllReal {ι : Type} (f : ι → EReal) : Prop := ∃ g : ι → ℝ, ∀ i, f i = (g i : EReal)

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A factor goes inside a sum of selected weights when at most one is selected, or when everything is a real number. -/
theorem mul_selected {K M : ℕ} (nb : Fin K → Fin M) (w : Fin K → EReal) (x : Fin M → EReal)
    (h : Function.Injective nb ∨ AllReal x ∧ AllReal w) (j : Fin M) :
    x j * (∑ k, if nb k = j then w k else 0) = ∑ k, if nb k = j then x j * w k else 0 := by
  rcases h with h | ⟨⟨X, hX⟩, ⟨W, hW⟩⟩
  · by_cases hj : ∃ k, nb k = j
    · obtain ⟨k, rfl⟩ := hj
      simp only [h.eq_iff, Finset.sum_ite_eq', Finset.mem_univ, if_true]
    · have hk : ∀ k, ¬nb k = j := fun k e => hj ⟨k, e⟩
      simp only [hk, if_false, Finset.sum_const_zero, mul_zero]
  · have e1 : ∀ k, (if nb k = j then w k else 0) = (((if nb k = j then W k else 0 : ℝ)) : EReal) := fun k => by
      split <;> simp [hW]
    have e2 : ∀ k, (if nb k = j then x j * w k else 0) = (((if nb k = j then X j * W k else 0 : ℝ)) : EReal) := fun k => by
      split <;> simp [hW, hX]
    rw [Finset.sum_congr rfl fun k _ => e1 k, Finset.sum_congr rfl fun k _ => e2 k, ← coe_sum, ← coe_sum, hX, ← EReal.coe_mul, Finset.mul_sum]
    simp only [mul_ite, mul_zero]

/-- A row against a table of selected weights is the gathered row against the weights. -/
theorem sum_selected {K M : ℕ} (nb : Fin K → Fin M) (w : Fin K → EReal) (x : Fin M → EReal)
    (h : Function.Injective nb ∨ AllReal x ∧ AllReal w) :
    (∑ j, x j * ∑ k, if nb k = j then w k else 0) = ∑ k, x (nb k) * w k := by
  simp only [mul_selected nb w x h]
  rw [Finset.sum_comm]
  refine Finset.sum_congr rfl fun k _ => ?_
  simp

/-- A sum over the columns, node by node and unit by unit. -/
theorem sum_columns (f : Fin 512 → EReal) :
    ∑ cl, f cl = ∑ n : Fin 32, ∑ h : Fin 16, f ⟨n.val * 16 + h.val, by omega⟩ := by
  rw [← Fintype.sum_prod_type', ← (finProdFinEquiv : Fin 32 × Fin 16 ≃ Fin (32 * 16)).sum_comp]
  refine Finset.sum_congr rfl fun p _ => congrArg f (Fin.ext ?_)
  simp [finProdFinEquiv]
  ring

/-- A product with the block-diagonal table keeps the columns of the row's own node. -/
theorem sum_diagonal (n : Fin 32) (a w : Fin 512 → EReal) :
    (∑ cl, a cl * (if n.val = cl.val / 16 then w cl else 0))
      = ∑ h : Fin 16, a ⟨n.val * 16 + h.val, by omega⟩ * w ⟨n.val * 16 + h.val, by omega⟩ := by
  rw [sum_columns, Finset.sum_eq_single n]
  · refine Finset.sum_congr rfl fun h _ => ?_
    rw [if_pos (by show n.val = (n.val * 16 + h.val) / 16; omega)]
  · intro n' _ hne
    refine Finset.sum_eq_zero fun h _ => ?_
    rw [if_neg (by show ¬n.val = (n'.val * 16 + h.val) / 16; intro e; apply hne; apply Fin.ext; omega), mul_zero]
  · exact fun hn => absurd (Finset.mem_univ _) hn

/-- The logistic function of a real number through tanh. -/
theorem logistic_real (r : ℝ) : 1 / (1 + Real.exp (-r)) = 1 / 2 * Real.tanh (1 / 2 * r) + 1 / 2 := by
  have h2 : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  have ha := Real.exp_pos (1 / 2 * r)
  have hb := Real.exp_pos (-(1 / 2 * r))
  rw [Real.tanh_eq_sinh_div_cosh, Real.sinh_eq, Real.cosh_eq, h2]
  generalize Real.exp (1 / 2 * r) = a at *
  generalize Real.exp (-(1 / 2 * r)) = b at *
  field_simp
  linear_combination (-2 * b) * h1

/-- The word of one half denotes one half. -/
theorem half_word : Ideal.ofBits .f32 0x3F000000#32 = ((1 / 2 : ℝ) : EReal) := by
  simp [Ideal.ofBits, Ideal.ieee, -EReal.coe_mul]
  norm_num

/-- The logistic function through tanh, at every extended real. -/
theorem logistic (z : EReal) :
    Ideal.div 1 (1 + Ideal.exp (-z)) = ((1 / 2 : ℝ) : EReal) * Ideal.tanh (((1 / 2 : ℝ) : EReal) * z) + ((1 / 2 : ℝ) : EReal) := by
  induction z using EReal.rec with
  | bot =>
    rw [EReal.coe_mul_bot_of_pos (by norm_num), EReal.neg_bot, Ideal.exp_top, Ideal.tanh_bot, EReal.add_top_of_ne_bot (show (1 : EReal) ≠ ⊥ from EReal.coe_ne_bot 1)]
    unfold Ideal.div
    rw [if_neg (by simp), EReal.inv_top, mul_zero]
    norm_num [← EReal.coe_one, ← EReal.coe_neg, ← EReal.coe_mul, ← EReal.coe_add]
  | top =>
    rw [EReal.coe_mul_top_of_pos (by norm_num), EReal.neg_top, Ideal.exp_bot, Ideal.tanh_top, add_zero]
    unfold Ideal.div
    rw [if_neg (by simp), ← EReal.coe_one, ← EReal.coe_inv, ← EReal.coe_mul, ← EReal.coe_mul, ← EReal.coe_add]
    norm_num
  | coe r =>
    have hp : (1 + Real.exp (-r)) ≠ 0 := by positivity
    rw [← EReal.coe_mul, ← EReal.coe_neg, Ideal.exp_coe, Ideal.tanh_coe, ← EReal.coe_one, ← EReal.coe_add]
    unfold Ideal.div
    rw [if_neg (by exact_mod_cast hp), ← EReal.coe_inv, ← EReal.coe_mul, ← EReal.coe_mul, ← EReal.coe_add, ← logistic_real, one_div, one_mul]

end Cert.Math

end
-- ==== Proof.RefValue.lean ====
/-
  The reference's result at an index, over the extended reals, where every entry of the neighbour table names a node and the
  biases are zero: the logistic function of the second layer over the gathered inputs.
-/
module

public import proofs.«01_k».proof.Proof.Math
public import proofs.«01_k».proof.Proof.Gen.ReferenceIdeal.Read
public import Idealize.ShloMosaic.Lib.Pointwise
public import Idealize.ShloMosaic.Lib.ReduceAll
public import Idealize.ShloMosaic.Lib.ValueIdx

@[expose] public section

set_option maxRecDepth 16384

noncomputable section

namespace Cert.ReferenceIdeal.Point

open Idealize.ShloMosaic Idealize.ShloMosaic.TcCoe
open Cert.ReferenceIdeal Cert.ReferenceIdeal.Gen Cert.ReferenceIdeal.Read

variable (x0 : FVec Ideal S16384x32 .f32) (x1 : FVec Ideal S32x16x16 .f32) (x2 x3 : FVec Ideal S32x16 .f32)
  (x4 : FVec Ideal S32 .f32) (x5 : IVec S32x16 32)

/-- Every entry of the table names a node. -/
def Names (x5 : IVec S32x16 32) : Prop := ∀ j, 0 ≤ (x5 j).toInt ∧ (x5 j).toInt < 32

variable {x5} in
/-- The node an entry names. -/
def Names.node (h : Names x5) (n : Fin 32) (k : Fin 16) : Fin 32 :=
  ⟨(x5 (ix2 n k)).toInt.toNat, by have := h (ix2 n k); omega⟩

/-- The gather along the columns, at an index: the operand's row at the column the start index names, clamped. -/
theorem gather_apply (x : FVec Ideal S16384x32 .f32) (idx : IVec S512x1 32) (b : Fin 16384) (p : Fin 512) :
    Host.gather gather_S16384x32_S512x1_S16384x512_0_1_n_n_1_1_163841 x idx (ix2 b p)
      = x (ix2 b (⟨min (idx (ix2 p 0)).toInt.toNat (32 - 1), by omega⟩ : Fin 32)) := by
  generalize hd : gather_S16384x32_S512x1_S16384x512_0_1_n_n_1_1_163841 = d
  unfold Host.gather
  congr 1
  funext a
  refine Fin.ext ?_
  show d.start (ix2 b p) idx a + d.batchCoord (ix2 b p) a + d.offCoord (ix2 b p) a = _
  subst hd
  rw [GatherDims.batchCoord_eq_zero _ _ _ List.not_mem_nil, Nat.add_zero]
  match a with
  | ⟨0, _⟩ =>
    unfold GatherDims.start
    rw [dif_neg (by simp [gather_S16384x32_S512x1_S16384x512_0_1_n_n_1_1_163841]), Nat.zero_add]
    unfold GatherDims.offCoord
    rfl
  | ⟨1, _⟩ =>
    rw [GatherDims.offCoord_eq_zero _ _ _ (fun h => ((GatherDims.mem_sKept _ _).mp h).1 (List.mem_singleton.mpr rfl)), Nat.add_zero]
    unfold GatherDims.start
    rw [dif_pos (show (⟨1, by decide⟩ : Fin 2) ∈ gather_S16384x32_S512x1_S16384x512_0_1_n_n_1_1_163841.startIndexMap from List.mem_singleton.mpr rfl)]
    have hsi : ∀ h, gather_S16384x32_S512x1_S16384x512_0_1_n_n_1_1_163841.siIdx (ix2 b p)
        ⟨List.idxOf (⟨1, by decide⟩ : Fin 2) gather_S16384x32_S512x1_S16384x512_0_1_n_n_1_1_163841.startIndexMap, h⟩ = ix2 p 0 := by
      intro h
      funext e; refine Fin.ext ?_
      match e with
      | ⟨0, _⟩ => rfl
      | ⟨1, _⟩ => rfl
    rw [hsi]
    rfl

/-- The index the gather starts from: the table's own entry, which is not negative. -/
theorem start_apply (h : Names x5) (n : Fin 32) (k : Fin 16) :
    val_main_call0_v5 (F := Ideal) x5 (ix2 (⟨n.val * 16 + k.val, by omega⟩ : Fin 512) 0) = x5 (ix2 n k) := by
  have e : val_main_v0 (F := Ideal) x5 (ix1 (⟨n.val * 16 + k.val, by omega⟩ : Fin 512)) = x5 (ix2 n k) := by
    rw [val_main_v0_apply]
    congr 1
    funext a
    refine Fin.ext ?_
    match a with
    | ⟨0, _⟩ => show (n.val * 16 + k.val) / 16 = n.val; omega
    | ⟨1, _⟩ => show (n.val * 16 + k.val) % 16 = k.val; omega
  have hj : idx_main_call0_v5 (ix2 (⟨n.val * 16 + k.val, by omega⟩ : Fin 512) 0) = ix1 (⟨n.val * 16 + k.val, by omega⟩ : Fin 512) := by
    funext a
    match a with
    | ⟨0, _⟩ => rfl
  rw [val_main_call0_v5_apply, hj, val_main_call0_v4_apply, val_main_call0_v1_apply, e, val_main_call0_v0_apply, val_main_call0_c_apply]
  have h0 := (h (ix2 n k)).1
  have hb : IntOp.cmpi .slt (x5 (ix2 n k)) 0#32 = 0#1 := by
    have : (x5 (ix2 n k)).slt 0#32 = false := by
      simp [BitVec.slt, h0]
    simp [IntOp.cmpi, this]
  rw [hb]
  rfl

/-- No index is out of range. -/
theorem mask_apply (h : Names x5) (j : S16384x512.Idx) : val_main_call0_v14 (F := Ideal) x5 j = 1#1 := by
  rw [val_main_call0_v14_apply]
  unfold val_main_call0_v12
  refine Host.reduce_andi_one _ _ _ _ _ rfl fun i => ?_
  have hi : i = ix2 (⟨(⟨(i 0).val / 16, by have h0 : (i 0).val < 512 := (i 0).isLt; omega⟩ : Fin 32).val * 16 + (⟨(i 0).val % 16, by omega⟩ : Fin 16).val,
      by have h0 : (i 0).val < 512 := (i 0).isLt; show (i 0).val / 16 * 16 + (i 0).val % 16 < 512; omega⟩ : Fin 512) 0 := by
    funext a
    refine Fin.ext ?_
    match a with
    | ⟨0, _⟩ => show (i 0).val = (i 0).val / 16 * 16 + (i 0).val % 16; omega
    | ⟨1, _⟩ => have h1 : (i 1).val < 1 := (i 1).isLt; show (i 1).val = 0; omega
  rw [val_main_call0_v11_apply, val_main_call0_v7_apply, val_main_call0_v10_apply, val_main_call0_v6_apply, val_main_call0_c_2_apply,
    val_main_call0_v9_apply, val_main_call0_v8_apply, val_main_call0_c_1_apply]
  rw [hi, start_apply x5 h]
  have hr := h (ix2 (⟨(i 0).val / 16, by have h0 : (i 0).val < 512 := (i 0).isLt; omega⟩ : Fin 32) (⟨(i 0).val % 16, by omega⟩ : Fin 16))
  generalize x5 _ = w at hr ⊢
  have hge : (0#32).sle w = true := by simp [BitVec.sle, hr.1]
  have hle : w.sle 31#32 = true := by
    simp [BitVec.sle]
    omega
  simp [IntOp.cmpi, IntOp.andi, hge, hle]

/-- The gathered input: what the node's `k`-th neighbour holds. -/
theorem gathered_apply (h : Names x5) (b : Fin 16384) (n : Fin 32) (k : Fin 16) :
    val_main_v2 (F := Ideal) x0 x5 (ix3 b n k) = x0 (ix2 b (h.node n k)) := by
  have hj : idx_main_v2 (ix3 b n k) = ix2 b (⟨n.val * 16 + k.val, by omega⟩ : Fin 512) := by
    funext a
    refine Fin.ext ?_
    match a with
    | ⟨0, _⟩ => show ((b.val * 32 + n.val) * 16 + k.val) / 512 = b.val; omega
    | ⟨1, _⟩ => show ((b.val * 32 + n.val) * 16 + k.val) % 512 = n.val * 16 + k.val; omega
  rw [val_main_v2_apply, hj, val_main_v1_apply, mask_apply x5 h, ValueIdx.select_one]
  unfold val_main_call0_v13
  rw [gather_apply]
  have hb := h (ix2 n k)
  refine congrArg x0 (congrArg (ix2 b) (Fin.ext ?_))
  show min (val_main_call0_v5 (F := Ideal) x5 _).toInt.toNat (32 - 1) = (x5 (ix2 n k)).toInt.toNat
  rw [start_apply x5 h]
  omega

/-- The first layer's unit at an index. -/
theorem hidden_apply (h : Names x5) (h2 : ∀ j, x2 j = (0 : EReal)) (b : Fin 16384) (n : Fin 32) (u : Fin 16) :
    val_main_v8 (F := Ideal) x0 x1 x2 x5 (ix3 b n u)
      = max (∑ k : Fin 16, x1 (ix3 n k u) * x0 (ix2 b (h.node n k)) : EReal) 0 := by
  have hj : idx_main_v4 (ix3 b n u) = ix3 n u b := by
    funext a
    match a with
    | ⟨0, _⟩ => rfl
    | ⟨1, _⟩ => rfl
    | ⟨2, _⟩ => rfl
  have hl : ∀ k, lidx_main_v3 (ix3 n u b) k = ix3 n k u := fun k => by
    funext a
    match a with
    | ⟨0, _⟩ => rfl
    | ⟨1, _⟩ => rfl
    | ⟨2, _⟩ => rfl
  have hr : ∀ k, ridx_main_v3 (ix3 n u b) k = ix3 b n k := fun k => by
    funext a
    match a with
    | ⟨0, _⟩ => rfl
    | ⟨1, _⟩ => rfl
    | ⟨2, _⟩ => rfl
  rw [val_main_v8_apply, val_main_v7_apply, val_main_v4_apply, hj, val_main_v3_apply, val_main_v6_apply, val_main_v5_apply, h2]
  simp only [hl, hr, gathered_apply x0 x5 h]
  have hz : val_main_call1_v0 (F := Ideal) (ix3 b n u) = (0 : EReal) := by
    rw [val_main_call1_v0_apply, val_main_call1_cst_apply]
    exact Ideal.ofBits_zero_f32
  rw [hz]
  show max ((_ : EReal) + 0) 0 = _
  rw [add_zero]

/-- The result at an index. -/
theorem result_apply (h : Names x5) (h2 : ∀ j, x2 j = (0 : EReal)) (h4 : ∀ j, x4 j = (0 : EReal)) (b : Fin 16384) (n : Fin 32) :
    val_main_v19 (F := Ideal) x0 x1 x2 x3 x4 x5 (ix2 b n)
      = Ideal.div 1 (1 + Ideal.exp (-(∑ u : Fin 16, x3 (ix2 n u) * max (∑ k : Fin 16, x1 (ix3 n k u) * x0 (ix2 b (h.node n k)) : EReal) 0))) := by
  have hj : idx_main_v10 (ix2 b n) = ix2 n b := by
    funext a
    match a with
    | ⟨0, _⟩ => rfl
    | ⟨1, _⟩ => rfl
  have hl : ∀ u, lidx_main_v9 (ix2 n b) u = ix2 n u := fun u => by
    funext a
    match a with
    | ⟨0, _⟩ => rfl
    | ⟨1, _⟩ => rfl
  have hr : ∀ u, ridx_main_v9 (ix2 n b) u = ix3 b n u := fun u => by
    funext a
    match a with
    | ⟨0, _⟩ => rfl
    | ⟨1, _⟩ => rfl
    | ⟨2, _⟩ => rfl
  rw [val_main_v19_apply, val_main_v18_apply, val_main_cst_0_apply, val_main_v17_apply, val_main_v16_apply, val_main_cst_apply,
    val_main_v15_apply, val_main_v14_apply, val_main_v13_apply, val_main_v10_apply, hj, val_main_v9_apply, val_main_v12_apply, val_main_v11_apply, h4]
  simp only [hl, hr, hidden_apply x0 x1 x2 x5 h h2]
  show Ideal.div (Ideal.ofBits .f32 0x3F800000#32) (Ideal.ofBits .f32 0x3F800000#32 + Ideal.exp (-((_ : EReal) + 0))) = _
  rw [add_zero, Ideal.ofBits_one_f32]

end Cert.ReferenceIdeal.Point

end
-- ==== Proof.Pre.lean ====
/-
  What the precondition says, read off its printed form: the biases are zero, every entry of the neighbour table names a
  node, and each row's entries are distinct or the inputs and first-layer weights are real numbers throughout.
-/
module

public import proofs.«01_k».proof.Proof.RefValue
public import proofs.«01_k».proof.Pre_neighbour_table
public import proofs.«01_k».proof.Proof.Gen.Pre_neighbour_table

@[expose] public section

noncomputable section

namespace Cert.NeighbourTable

open Idealize.ShloMosaic Cert.Pre_neighbour_table Cert.Pre_neighbour_table.Facts

theorem andi_one {p q : BitVec 1} (h : IntOp.andi p q = 1#1) : p = 1#1 ∧ q = 1#1 := by revert h p q; decide

theorem ori_one {p q : BitVec 1} (h : IntOp.ori p q = 1#1) : p = 1#1 ∨ q = 1#1 := by revert h p q; decide

theorem bit_one {p : Bool} (h : BitVec.ofBool p = 1#1) : p = true := by revert h p; decide

/-- The word of infinity denotes the top element. -/
theorem inf_word : Ideal.ofBits .f32 0x7F800000#32 = (⊤ : EReal) := by
  simp [Ideal.ofBits, Ideal.ieee]

/-- A value whose magnitude is below infinity is a real number. -/
theorem real_of_abs_lt {x : EReal} (h : Ideal.cmp .olt (FloatOps.hostAbsf (F := Ideal) (φ := .f32) x) (Ideal.ofBits .f32 0x7F800000#32) = 1#1) :
    ∃ r : ℝ, x = (r : EReal) := by
  rw [inf_word] at h
  have h' : max x (-x) < (⊤ : EReal) := of_decide_eq_true (bit_one h)
  induction x using EReal.rec with
  | bot => simp at h'
  | top => simp at h'
  | coe r => exact ⟨r, rfl⟩

variable [Facts] (x : FVec Ideal S16384x32 .f32) (W1 : FVec Ideal S32x16x16 .f32) (b1 W2 : FVec Ideal S32x16 .f32)
  (b2 : FVec Ideal S32 .f32) (nb : IVec S32x16 32)

theorem b1_zero (h : (fn (F := Ideal) x W1 b1 W2 b2 nb).1 = fun _ => 1#1) (j : S32x16.Idx) : b1 j = (0 : EReal) := by
  have e := congrFun h j
  have e' : Ideal.cmp .oeq (b1 j) (Ideal.ofBits .f32 0x00000000#32) = 1#1 := e
  rw [Ideal.ofBits_zero_f32] at e'
  exact of_decide_eq_true (bit_one e')

theorem b2_zero (h : (fn (F := Ideal) x W1 b1 W2 b2 nb).2.1 = fun _ => 1#1) (j : S32.Idx) : b2 j = (0 : EReal) := by
  have e := congrFun h j
  have e' : Ideal.cmp .oeq (b2 j) (Ideal.ofBits .f32 0x00000000#32) = 1#1 := e
  rw [Ideal.ofBits_zero_f32] at e'
  exact of_decide_eq_true (bit_one e')

theorem names (h : (fn (F := Ideal) x W1 b1 W2 b2 nb).2.2.1 = fun _ => 1#1) : ReferenceIdeal.Point.Names nb := fun j => by
  have e := congrFun h j
  have e' : IntOp.andi (BitVec.ofBool ((0#32).sle (nb j))) (BitVec.ofBool ((nb j).slt 32#32)) = 1#1 := e
  obtain ⟨h0, h1⟩ := andi_one e'
  have h0 := bit_one h0
  have h1 := bit_one h1
  simp [BitVec.sle, BitVec.slt] at h0 h1
  exact ⟨h0, h1⟩

/-- Two places of a row that name the same node are one place, or the inputs and the weights are real throughout. -/
theorem distinct_or_real (h : (fn (F := Ideal) x W1 b1 W2 b2 nb).2.2.2 = fun _ => 1#1) (n : Fin 32) (k k' : Fin 16) :
    (k = k' ∨ nb (ix2 n k) ≠ nb (ix2 n k')) ∨ (∀ j, ∃ r : ℝ, x j = (r : EReal)) ∧ (∀ j, ∃ r : ℝ, W1 j = (r : EReal)) := by
  have e := congrFun h (ix3 n k k')
  rcases ori_one (p := IntOp.ori _ _) e with e | e
  · left
    rcases ori_one e with e | e
    · left
      have e' : BitVec.ofBool (BitVec.ofNat 32 k.val == BitVec.ofNat 32 k'.val) = 1#1 := e
      have := bit_one e'
      have h2 := congrArg BitVec.toNat (eq_of_beq this)
      simp at h2
      exact Fin.ext (by omega)
    · right
      have l : broadcastInDim S32x16x16 ![0, 1] bcast_S32x16_S32x16x16_0_1 nb (ix3 n k k') = nb (ix2 n k) := by pointwise
      have r : broadcastInDim S32x16x16 ![0, 2] bcast_S32x16_S32x16x16_0_2 nb (ix3 n k k') = nb (ix2 n k') := by pointwise
      have e' : BitVec.ofBool (broadcastInDim S32x16x16 ![0, 1] bcast_S32x16_S32x16x16_0_1 nb (ix3 n k k')
          != broadcastInDim S32x16x16 ![0, 2] bcast_S32x16_S32x16x16_0_2 nb (ix3 n k k')) = 1#1 := e
      rw [l, r] at e'
      exact bne_iff_ne.1 (bit_one e')
  · right
    obtain ⟨ex, ew⟩ := andi_one e
    refine ⟨fun j => real_of_abs_lt ?_, fun j => real_of_abs_lt ?_⟩
    · exact Host.reduce_andi_all _ _ _ _ _ ex j
    · exact Host.reduce_andi_all _ _ _ _ _ ew j

end Cert.NeighbourTable

end
-- ==== Proof.Tie.lean ====
/-
  The two results, index by index: under the precondition what the reference computes is what the kernel computes.
-/
module

public import proofs.«01_k».proof.Proof.KernelValue
public import proofs.«01_k».proof.Proof.Pre

@[expose] public section

set_option maxRecDepth 16384

noncomputable section

namespace Cert.Tie

open Idealize.ShloMosaic Idealize.ShloMosaic.TcCoe
open Cert.KernelIdeal Cert.KernelIdeal.Body
open Cert.ReferenceIdeal.Point (Names)

/-- An entry of the folded first-layer table: the weights of the neighbour slots that hold the row's node. -/
theorem fold_apply (W1 : FVec Ideal S32x16x16 .f32) (nb : IVec S32x16 32) (h : Names nb) (n : Fin 32) (u : Fin 16) (j : Fin 32) :
    foldW1 (rowsW1 W1) (rowsNb nb) (ix2 j (⟨n.val * 16 + u.val, by omega⟩ : Fin 512))
      = ∑ k : Fin 16, if h.node n k = j then W1 (ix3 n k u) else (0 : EReal) := by
  unfold foldW1
  refine Finset.sum_congr rfl fun k _ => ?_
  have hn : (⟨(n.val * 16 + u.val) / 16, by omega⟩ : Fin 32) = n := Fin.ext (by show (n.val * 16 + u.val) / 16 = n.val; omega)
  have hu : (⟨(n.val * 16 + u.val) % 16, by omega⟩ : Fin 16) = u := Fin.ext (by show (n.val * 16 + u.val) % 16 = u.val; omega)
  have ew : rowsW1 W1 (ix2 k (⟨n.val * 16 + u.val, by omega⟩ : Fin 512)) = W1 (ix3 n k u) := by
    show W1 (ix3 (⟨(n.val * 16 + u.val) / 16, _⟩ : Fin 32) k (⟨(n.val * 16 + u.val) % 16, _⟩ : Fin 16)) = _
    rw [hn, hu]
  have en : rowsNb nb (ix2 k (⟨n.val * 16 + u.val, by omega⟩ : Fin 512)) = ((((nb (ix2 n k)).toInt : ℤ) : ℝ) : EReal) := by
    show ((((nb (ix2 (⟨(n.val * 16 + u.val) / 16, _⟩ : Fin 32) k)).toInt : ℤ) : ℝ) : EReal) = _
    rw [hn]
  have hb := h (ix2 n k)
  have hiff : (rowsNb nb (ix2 k (⟨n.val * 16 + u.val, by omega⟩ : Fin 512)) = ((j.val : ℝ) : EReal)) ↔ h.node n k = j := by
    rw [en, EReal.coe_eq_coe_iff, Fin.ext_iff]
    show _ ↔ (nb (ix2 n k)).toInt.toNat = j.val
    constructor
    · intro e
      have e' : (nb (ix2 n k)).toInt = (j.val : ℤ) := by exact_mod_cast e
      omega
    · intro e
      have e' : (nb (ix2 n k)).toInt = (j.val : ℤ) := by omega
      rw [e']; simp
  show (if rowsNb nb (ix2 k (⟨n.val * 16 + u.val, _⟩ : Fin 512)) = ((j.val : ℝ) : EReal) then rowsW1 W1 (ix2 k (⟨n.val * 16 + u.val, _⟩ : Fin 512)) else 0) = _
  rw [ew]
  by_cases e : h.node n k = j
  · rw [if_pos (hiff.2 e), if_pos e]
  · rw [if_neg (fun e' => e (hiff.1 e')), if_neg e]

/-- A row of the input against the folded table is the gathered row against the weights. -/
theorem layer_apply (x : FVec Ideal S16384x32 .f32) (W1 : FVec Ideal S32x16x16 .f32) (nb : IVec S32x16 32) (h : Names nb)
    (hd : ∀ n k k', (k = k' ∨ nb (ix2 n k) ≠ nb (ix2 n k')) ∨ (∀ j, ∃ r : ℝ, x j = (r : EReal)) ∧ (∀ j, ∃ r : ℝ, W1 j = (r : EReal)))
    (b : Fin 16384) (n : Fin 32) (u : Fin 16) :
    (∑ j : Fin 32, x (ix2 b j) * foldW1 (rowsW1 W1) (rowsNb nb) (ix2 j (⟨n.val * 16 + u.val, by omega⟩ : Fin 512)) : EReal)
      = ∑ k : Fin 16, W1 (ix3 n k u) * x (ix2 b (h.node n k)) := by
  simp only [fold_apply W1 nb h]
  refine (Math.sum_selected (h.node n) (fun k => W1 (ix3 n k u)) (fun j => x (ix2 b j)) ?_).trans
    (Finset.sum_congr rfl fun k _ => mul_comm _ _)
  by_cases hr : (∀ j, ∃ r : ℝ, x j = (r : EReal)) ∧ (∀ j, ∃ r : ℝ, W1 j = (r : EReal))
  · right
    refine ⟨⟨fun j => (hr.1 (ix2 b j)).choose, fun j => (hr.1 (ix2 b j)).choose_spec⟩,
      ⟨fun k => (hr.2 (ix3 n k u)).choose, fun k => (hr.2 (ix3 n k u)).choose_spec⟩⟩
  · left
    intro k k' e
    rcases hd n k k' with (e' | e') | e'
    · exact e'
    · refine absurd (BitVec.eq_of_toInt_eq ?_) e'
      have e2 : (nb (ix2 n k)).toInt.toNat = (nb (ix2 n k')).toInt.toNat := congrArg Fin.val e
      have h1 := h (ix2 n k)
      have h2 := h (ix2 n k')
      omega
    · exact absurd e' hr

/-- The kernel's result for a row and a node: the logistic function of the second layer over the gathered inputs. -/
theorem resultAt_eq (x : FVec Ideal S16384x32 .f32) (W1 : FVec Ideal S32x16x16 .f32) (W2 : FVec Ideal S32x16 .f32) (nb : IVec S32x16 32) (h : Names nb)
    (hd : ∀ n k k', (k = k' ∨ nb (ix2 n k) ≠ nb (ix2 n k')) ∨ (∀ j, ∃ r : ℝ, x j = (r : EReal)) ∧ (∀ j, ∃ r : ℝ, W1 j = (r : EReal)))
    (b : Fin 16384) (n : Fin 32) :
    resultAt x W1 W2 nb b n
      = Ideal.div 1 (1 + Ideal.exp (-(∑ u : Fin 16, W2 (ix2 n u) * max (∑ k : Fin 16, W1 (ix3 n k u) * x (ix2 b (h.node n k)) : EReal) 0))) := by
  unfold resultAt
  rw [Math.half_word, Math.logistic]
  have key : (∑ cl : Fin 512, max (∑ k : Fin 32, x (ix2 b k) * foldW1 (rowsW1 W1) (rowsNb nb) (ix2 k cl) : EReal) 0 * diagW2 (rowW2 W2) (ix2 n cl))
      = ∑ u : Fin 16, W2 (ix2 n u) * max (∑ k : Fin 16, W1 (ix3 n k u) * x (ix2 b (h.node n k)) : EReal) 0 := by
    refine (Math.sum_diagonal n (fun cl => max (∑ k : Fin 32, x (ix2 b k) * foldW1 (rowsW1 W1) (rowsNb nb) (ix2 k cl) : EReal) 0)
        (fun cl => rowW2 W2 (ix2 0 cl))).trans ?_
    refine Finset.sum_congr rfl fun u _ => ?_
    rw [layer_apply x W1 nb h hd, mul_comm]
    refine congrArg (· * _) ?_
    show W2 (ix2 (⟨(n.val * 16 + u.val) / 16, _⟩ : Fin 32) (⟨(n.val * 16 + u.val) % 16, _⟩ : Fin 16)) = _
    congr 1
    funext a
    refine Fin.ext ?_
    match a with
    | ⟨0, _⟩ => show (n.val * 16 + u.val) / 16 = n.val; omega
    | ⟨1, _⟩ => show (n.val * 16 + u.val) % 16 = u.val; omega
  rw [key]

variable (m : (ℓ : Loc nD τ sig) → Buf (Elt Ideal) ℓ) (c : Dev nD)

/-- The two results are one array. -/
theorem results_eq
    (h1 : (Pre_neighbour_table.fn (F := Ideal) (m (c.tc.loc main_arg0)) (m (c.tc.loc main_arg1)) (m (c.tc.loc main_arg2)) (m (c.tc.loc main_arg3)) (m (c.tc.loc main_arg4)) (m (c.tc.loc main_arg5))).1 = fun _ => 1#1)
    (h2 : (Pre_neighbour_table.fn (F := Ideal) (m (c.tc.loc main_arg0)) (m (c.tc.loc main_arg1)) (m (c.tc.loc main_arg2)) (m (c.tc.loc main_arg3)) (m (c.tc.loc main_arg4)) (m (c.tc.loc main_arg5))).2.1 = fun _ => 1#1)
    (h3 : (Pre_neighbour_table.fn (F := Ideal) (m (c.tc.loc main_arg0)) (m (c.tc.loc main_arg1)) (m (c.tc.loc main_arg2)) (m (c.tc.loc main_arg3)) (m (c.tc.loc main_arg4)) (m (c.tc.loc main_arg5))).2.2.1 = fun _ => 1#1)
    (h4 : (Pre_neighbour_table.fn (F := Ideal) (m (c.tc.loc main_arg0)) (m (c.tc.loc main_arg1)) (m (c.tc.loc main_arg2)) (m (c.tc.loc main_arg3)) (m (c.tc.loc main_arg4)) (m (c.tc.loc main_arg5))).2.2.2 = fun _ => 1#1) :
    ReferenceIdeal.Read.val_main_v19 (F := Ideal) (m (c.tc.loc main_arg0)) (m (c.tc.loc main_arg1)) (m (c.tc.loc main_arg2)) (m (c.tc.loc main_arg3)) (m (c.tc.loc main_arg4)) (m (c.tc.loc main_arg5))
      = Value.G4 m c := by
  have hn := NeighbourTable.names _ _ _ _ _ _ h3
  have hd := NeighbourTable.distinct_or_real _ _ _ _ _ _ h4
  have hb1 := NeighbourTable.b1_zero _ _ _ _ _ _ h1
  have hb2 := NeighbourTable.b2_zero _ _ _ _ _ _ h2
  funext i
  obtain ⟨b, n, rfl⟩ : ∃ (b : Fin 16384) (n : Fin 32), i = ix2 b n := ⟨i 0, i 1, by
    funext a
    match a with
    | ⟨0, _⟩ => rfl
    | ⟨1, _⟩ => rfl⟩
  refine (ReferenceIdeal.Point.result_apply _ _ _ _ _ _ hn hb1 hb2 b n).trans ?_
  exact ((result_apply m c b n).trans (resultAt_eq _ _ _ _ hn hd b n)).symm

end Cert.Tie

end
-- ==== Proof.lean ====
/- The proof of the claims. The frames are the generated ones (a reference's is its run weakened, its counters zero because
   it declares no semaphore), so each holds under the precondition too; the algebraic claim puts the kernel's run beside the
   reference's and compares the two results at an index (Proof/Tie.lean). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_neighbour_table
public import proofs.«01_k».proof.Proof.Tie
public import Idealize.ShloMosaic.Adequacy
public import Idealize.ShloMosaic.Init
public import Idealize.ShloMosaic.Lib.Quiescent

@[expose] public section

noncomputable section

namespace Cert.Proof

open Idealize.ShloMosaic Idealize.SL.Sem

theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : algebraic_KernelIdeal_ReferenceIdeal_pre_neighbour_table := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  obtain ⟨h1, h2, h3, h4⟩ := hpre c
  exact (Cert.ReferenceIdeal.Read.val_main_v19_eq _ _ _ _ _ _).trans (Cert.Tie.results_eq m c h1 h2 h3 h4)

theorem claim : Cert.Claim := ⟨Cert.Kernel.Gen.facts, Cert.KernelIdeal.Gen.facts, Cert.ReferenceIdeal.Gen.facts, Cert.Pre_neighbour_table.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, (trivial : preserves_Kernel_KernelIdeal), algebraic⟩

end Cert.Proof

end
